-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x64x8192 : Shape := ⟨3, ![32, 64, 8192]⟩
abbrev S256x64x4 : Shape := ⟨3, ![256, 64, 4]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S256x4x64 : Shape := ⟨3, ![256, 4, 64]⟩
abbrev S256x256 : Shape := ⟨2, ![256, 256]⟩
abbrev S32x256x4224 : Shape := ⟨3, ![32, 256, 4224]⟩
abbrev S1x64x8192 : Shape := ⟨3, ![1, 64, 8192]⟩
abbrev S1x256x4224 : Shape := ⟨3, ![1, 256, 4224]⟩
abbrev S256x4224 : Shape := ⟨2, ![256, 4224]⟩
abbrev S64x8192 : Shape := ⟨2, ![64, 8192]⟩
abbrev S64x256 : Shape := ⟨2, ![64, 256]⟩
abbrev S64x512 : Shape := ⟨2, ![64, 512]⟩
abbrev S64x128 : Shape := ⟨2, ![64, 128]⟩
abbrev S256x128 : Shape := ⟨2, ![256, 128]⟩
abbrev S1x256x128 : Shape := ⟨3, ![1, 256, 128]⟩
abbrev S32x256x4099 : Shape := ⟨3, ![32, 256, 4099]⟩

abbrev nBuf : Space → Nat
  | .hbm => 65
  | .vmem => 7
  | .smem => 0
  | _ => 0

abbrev bufTy : (tb : Table) → Fin (tcTables nBuf tb) → BufTy
  | .hbm, ⟨0, _⟩ => ⟨S32x64x8192, .f32⟩
  | .hbm, ⟨1, _⟩ => ⟨S256x64x4, .f32⟩
  | .hbm, ⟨2, _⟩ => ⟨S512, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S_, .i32⟩
  | .hbm, ⟨8, _⟩ => ⟨S_, .i32⟩
  | .hbm, ⟨9, _⟩ => ⟨S512, .i32⟩
  | .hbm, ⟨10, _⟩ => ⟨S512, .i32⟩
  | .hbm, ⟨11, _⟩ => ⟨S_, .i32⟩
  | .hbm, ⟨12, _⟩ => ⟨S512, .i32⟩
  | .hbm, ⟨13, _⟩ => ⟨S512, .i1⟩
  | .hbm, ⟨14, _⟩ => ⟨S_, .i32⟩
  | .hbm, ⟨15, _⟩ => ⟨S512, .i32⟩
  | .hbm, ⟨16, _⟩ => ⟨S512, .i1⟩
  | .hbm, ⟨17, _⟩ => ⟨S_, .i32⟩
  | .hbm, ⟨18, _⟩ => ⟨S_, .i1⟩
  | .hbm, ⟨19, _⟩ => ⟨S512, .i1⟩
  | .hbm, ⟨20, _⟩ => ⟨S512, .i1⟩
  | .hbm, ⟨21, _⟩ => ⟨S512, .i1⟩
  | .hbm, ⟨22, _⟩ => ⟨S512, .i32⟩
  | .hbm, ⟨23, _⟩ => ⟨S512, .i32⟩
  | .hbm, ⟨24, _⟩ => ⟨S512, .i32⟩
  | .hbm, ⟨25, _⟩ => ⟨S_, .i32⟩
  | .hbm, ⟨26, _⟩ => ⟨S512, .i32⟩
  | .hbm, ⟨27, _⟩ => ⟨S512, .i32⟩
  | .hbm, ⟨28, _⟩ => ⟨S_, .i32⟩
  | .hbm, ⟨29, _⟩ => ⟨S512, .i32⟩
  | .hbm, ⟨30, _⟩ => ⟨S512, .i32⟩
  | .hbm, ⟨31, _⟩ => ⟨S_, .i32⟩
  | .hbm, ⟨32, _⟩ => ⟨S_, .i32⟩
  | .hbm, ⟨33, _⟩ => ⟨S512, .i32⟩
  | .hbm, ⟨34, _⟩ => ⟨S512, .i32⟩
  | .hbm, ⟨35, _⟩ => ⟨S512, .i32⟩
  | .hbm, ⟨36, _⟩ => ⟨S_, .i32⟩
  | .hbm, ⟨37, _⟩ => ⟨S512, .i32⟩
  | .hbm, ⟨38, _⟩ => ⟨S512, .i1⟩
  | .hbm, ⟨39, _⟩ => ⟨S512, .i32⟩
  | .hbm, ⟨40, _⟩ => ⟨S512, .i32⟩
  | .hbm, ⟨41, _⟩ => ⟨S_, .i32⟩
  | .hbm, ⟨42, _⟩ => ⟨S512, .i32⟩
  | .hbm, ⟨43, _⟩ => ⟨S512, .i1⟩
  | .hbm, ⟨44, _⟩ => ⟨S512, .i1⟩
  | .hbm, ⟨45, _⟩ => ⟨S_, .i32⟩
  | .hbm, ⟨46, _⟩ => ⟨S512, .i32⟩
  | .hbm, ⟨47, _⟩ => ⟨S512, .i32⟩
  | .hbm, ⟨48, _⟩ => ⟨S512, .i32⟩
  | .hbm, ⟨49, _⟩ => ⟨S_, .i32⟩
  | .hbm, ⟨50, _⟩ => ⟨S512, .i32⟩
  | .hbm, ⟨51, _⟩ => ⟨S512, .i32⟩
  | .hbm, ⟨52, _⟩ => ⟨S512, .i32⟩
  | .hbm, ⟨53, _⟩ => ⟨S512, .i32⟩
  | .hbm, ⟨54, _⟩ => ⟨S512x1, .i32⟩
  | .hbm, ⟨55, _⟩ => ⟨S1x512, .i32⟩
  | .hbm, ⟨56, _⟩ => ⟨S512x512, .i32⟩
  | .hbm, ⟨57, _⟩ => ⟨S512x512, .i32⟩
  | .hbm, ⟨58, _⟩ => ⟨S512x512, .i1⟩
  | .hbm, ⟨59, _⟩ => ⟨S512x512, .bf16⟩
  | .hbm, ⟨60, _⟩ => ⟨S256x4x64, .f32⟩
  | .hbm, ⟨61, _⟩ => ⟨S256x256, .f32⟩
  | .hbm, ⟨62, _⟩ => ⟨S256x256, .bf16⟩
  | .hbm, ⟨63, _⟩ => ⟨S32x256x4224, .f32⟩
  | .hbm, ⟨64, _⟩ => ⟨S32x256x4099, .f32⟩
  | .local _ .vmem, ⟨0, _⟩ => ⟨S1x64x8192, .f32⟩
  | .local _ .vmem, ⟨1, _⟩ => ⟨S1x64x8192, .f32⟩
  | .local _ .vmem, ⟨2, _⟩ => ⟨S512x512, .bf16⟩
  | .local _ .vmem, ⟨3, _⟩ => ⟨S256x256, .bf16⟩
  | .local _ .vmem, ⟨4, _⟩ => ⟨S1x256x4224, .f32⟩
  | .local _ .vmem, ⟨5, _⟩ => ⟨S1x256x4224, .f32⟩
  | .local _ .vmem, ⟨6, _⟩ => ⟨S256x4224, .bf16⟩
  | _, _ => ⟨S32x64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_v5 : Ref sig .tc := ⟨.hbm, 12, rfl⟩
abbrev main_call0_v6 : Ref sig .tc := ⟨.hbm, 13, rfl⟩
abbrev main_call0_c_2 : Ref sig .tc := ⟨.hbm, 14, rfl⟩
abbrev main_call0_v7 : Ref sig .tc := ⟨.hbm, 15, rfl⟩
abbrev main_call0_v8 : Ref sig .tc := ⟨.hbm, 16, rfl⟩
abbrev main_call0_c_3 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_c_1 : Ref sig .tc := ⟨.hbm, 28, rfl⟩
abbrev main_v4 : Ref sig .tc := ⟨.hbm, 29, rfl⟩
abbrev main_v5 : Ref sig .tc := ⟨.hbm, 30, rfl⟩
abbrev main_c_2 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v6 : Ref sig .tc := ⟨.hbm, 48, rfl⟩
abbrev main_c_3 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x4224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32x64x8192 : Shape := ⟨3, ![32, 64, 8192]⟩
abbrev S256x64x4 : Shape := ⟨3, ![256, 64, 4]⟩
abbrev S_ : Shape := ⟨0, ![]⟩
abbrev S32x64x8204 : Shape := ⟨3, ![32, 64, 8204]⟩
abbrev S32x256x4099 : Shape := ⟨3, ![32, 256, 4099]⟩
abbrev S32x64x4099 : Shape := ⟨3, ![32, 64, 4099]⟩
abbrev S256x64x1 : Shape := ⟨3, ![256, 64, 1]⟩
abbrev S256x64 : Shape := ⟨2, ![256, 64]⟩
abbrev S32x4099x256 : Shape := ⟨3, ![32, 4099, 256]⟩

abbrev nBuf : Space → Nat
  | .hbm => 31
  | .vmem => 0
  | .smem => 0
  | _ => 0

abbrev bufTy : (tb : Table) → Fin (tcTables nBuf tb) → BufTy
  | .hbm, ⟨0, _⟩ => ⟨S32x64x8192, .f32⟩
  | .hbm, ⟨1, _⟩ => ⟨S256x64x4, .f32⟩
  | .hbm, ⟨2, _⟩ => ⟨S_, .i32⟩
  | .hbm, ⟨3, _⟩ => ⟨S_, .f32⟩
  | .hbm, ⟨4, _⟩ => ⟨S32x64x8204, .f32⟩
  | .hbm, ⟨5, _⟩ => ⟨S_, .f32⟩
  | .hbm, ⟨6, _⟩ => ⟨S32x256x4099, .f32⟩
  | .hbm, ⟨7, _⟩ => ⟨S32x64x4099, .f32⟩
  | .hbm, ⟨8, _⟩ => ⟨S256x64x1, .f32⟩
  | .hbm, ⟨9, _⟩ => ⟨S256x64, .f32⟩
  | .hbm, ⟨10, _⟩ => ⟨S32x4099x256, .f32⟩
  | .hbm, ⟨11, _⟩ => ⟨S32x256x4099, .f32⟩
  | .hbm, ⟨12, _⟩ => ⟨S32x256x4099, .f32⟩
  | .hbm, ⟨13, _⟩ => ⟨S32x64x4099, .f32⟩
  | .hbm, ⟨14, _⟩ => ⟨S256x64x1, .f32⟩
  | .hbm, ⟨15, _⟩ => ⟨S256x64, .f32⟩
  | .hbm, ⟨16, _⟩ => ⟨S32x4099x256, .f32⟩
  | .hbm, ⟨17, _⟩ => ⟨S32x256x4099, .f32⟩
  | .hbm, ⟨18, _⟩ => ⟨S32x256x4099, .f32⟩
  | .hbm, ⟨19, _⟩ => ⟨S32x64x4099, .f32⟩
  | .hbm, ⟨20, _⟩ => ⟨S256x64x1, .f32⟩
  | .hbm, ⟨21, _⟩ => ⟨S256x64, .f32⟩
  | .hbm, ⟨22, _⟩ => ⟨S32x4099x256, .f32⟩
  | .hbm, ⟨23, _⟩ => ⟨S32x256x4099, .f32⟩
  | .hbm, ⟨24, _⟩ => ⟨S32x256x4099, .f32⟩
  | .hbm, ⟨25, _⟩ => ⟨S32x64x4099, .f32⟩
  | .hbm, ⟨26, _⟩ => ⟨S256x64x1, .f32⟩
  | .hbm, ⟨27, _⟩ => ⟨S256x64, .f32⟩
  | .hbm, ⟨28, _⟩ => ⟨S32x4099x256, .f32⟩
  | .hbm, ⟨29, _⟩ => ⟨S32x256x4099, .f32⟩
  | .hbm, ⟨30, _⟩ => ⟨S32x256x4099, .f32⟩
  | _, _ => ⟨S32x64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩

abbrev nD : Nat := 1
abbrev τ : Topo := Topo.v7x

variable {F : FTy → Type} [FloatOps F]
-- ==== Proof.Taps.lean ====
/-
  What one grid point leaves in the scratch buffer, one store at a time: the mathematics of a block.

  The scratch holds, at row `64 k + c` and column `p`, the input element of channel `c` that tap `k`
  meets at output column `p`. Each store fills 64 rows by 128 columns with one quarter of a product of
  a 512-column stretch of the input with the selection matrix.
-/
module

public import proofs.«01_k».proof.Proof.Gen.KernelIdeal.Frame
public import Idealize.ShloMosaic.PureOps.Ideal
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Taps

open Cert.KernelIdeal Cert.KernelIdeal.Gen Idealize.ShloMosaic Idealize.ShloMosaic.TcCoe

/-- Column `q - 256` of channel `c` of one batch entry, and zero outside its 8192 columns. -/
def shifted (x : FVec Ideal S1x64x8192 .f32) (c : Fin 64) (q : ℕ) : EReal :=
  if h : 256 ≤ q ∧ q < 8448 then x (ix3 0 c ⟨q - 256, by omega⟩) else 0

/-- The scratch at row `j` and column `p`: columns `256 (p / 128)` to `256 (p / 128) + 511` of the shifted
    input's channel `j mod 64`, multiplied by column `128 (j / 64) + p mod 128` of the selection matrix. -/
def tapAt (x : FVec Ideal S1x64x8192 .f32) (t : FVec Ideal S512x512 .bf16) (j : Fin 256) (p : Fin 4224) : EReal :=
  ∑ l : Fin 512, shifted x ⟨j.val % 64, by omega⟩ (256 * (p.val / 128) + l.val)
    * t (ix2 l ⟨128 * (j.val / 64) + p.val % 128, by omega⟩)

/-- The scratch as an array. -/
def tapBuf (x : FVec Ideal S1x64x8192 .f32) (t : FVec Ideal S512x512 .bf16) (y : S256x4224.Idx) : Elt Ideal .bf16 :=
  tapAt x t (y 0) (y 1)

/-- One store: the quarter at column offset `2 a` of the product of a stretch `V` of the shifted input with
    the selection matrix is the scratch's block at row `a` and column `b`. -/
theorem tap_piece {a b o : ℕ} (x : FVec Ideal S1x64x8192 .f32) (t : FVec Ideal S512x512 .bf16)
    (V : FVec Ideal S64x512 .bf16) (hV : ∀ (c : Fin 64) (l : Fin 512), V (ix2 c l) = shifted x c (2 * b + l.val))
    (ha : a % 64 = 0) (hb : b % 128 = 0) (ho : o = 2 * a)
    (inb : ∀ i, (![a, b] : Fin 2 → ℕ) i + S64x128.size i ≤ S256x4224.size i)
    (hs : S64x512.Slices ![0, o] S64x128) (hd) (hct) (hc) (y : S64x128.Idx) :
    shapeCast S64x128 (extractStridedSlice S64x128 ![0, o]
        (truncf .bf16 (matmul dot_S64x512_S512x512_S64x512_1_0_0_1_n_n none V (shapeCast S512x512 t hct)
          (constant S64x512 .f32 0x00000000#32)) hd) hs) hc y
      = tapBuf x t ((Rect.unit (s := S256x4224) ![a, b] S64x128.size inb).emb y) := by
  subst ho
  idx_vars y
  pointwise
  have h0 : a + 64 ≤ 256 := inb 0
  have h1 : b + 128 ≤ 4224 := inb 1
  have e0 : ((Rect.unit (s := S256x4224) ![a, b] ![64, 128] inb).emb (ix2 y0 y1)) 0 = (⟨a + y0.val, by omega⟩ : Fin 256) :=
    Fin.ext (show a + 1 * y0.val = a + y0.val by omega)
  have e1 : ((Rect.unit (s := S256x4224) ![a, b] ![64, 128] inb).emb (ix2 y0 y1)) 1 = (⟨b + y1.val, by omega⟩ : Fin 4224) :=
    Fin.ext (show b + 1 * y1.val = b + y1.val by omega)
  show _ = tapAt x t _ _
  rw [e0, e1]
  unfold tapAt
  refine Finset.sum_congr rfl fun l _ => ?_
  rw [hV]
  have c0 : y0 = (⟨(a + y0.val) % 64, by omega⟩ : Fin 64) := Fin.ext (by show y0.val = (a + y0.val) % 64; omega)
  have c1 : 2 * b = 256 * ((b + y1.val) / 128) := by omega
  have c2 : 2 * a + y1.val = 128 * ((a + y0.val) / 64) + (b + y1.val) % 128 := by omega
  simp only [← c0, ← c1, ← c2]

/-- The first stretch: 256 zeros, then columns 0 to 255. -/
theorem window_first (x : FVec Ideal S1x64x8192 .f32) (hc) (hd) (hs) (hj) (c : Fin 64) (l : Fin 512) :
    (concatenate S64x512 1
        [⟨S64x256, broadcast S64x256 (Scalar.ofBits .bf16 0x0000#16 : Ideal .bf16)⟩,
          ⟨S64x256, extractStridedSlice S64x256 ![0, 0] (truncf .bf16 (shapeCast S64x8192 x hc) hd) hs⟩] hj
        : FVec Ideal S64x512 .bf16) (ix2 c l)
      = shifted x c (2 * 0 + l.val) := by
  pointwise
  unfold shifted
  by_cases h : l.val < 256
  · rw [dif_pos h, dif_neg (by omega)]
  · rw [dif_neg h, dif_pos (by omega)]

/-- The last stretch: columns 7936 to 8191, then 256 zeros. -/
theorem window_last (x : FVec Ideal S1x64x8192 .f32) (hc) (hd) (hs) (hj) (c : Fin 64) (l : Fin 512) :
    (concatenate S64x512 1
        [⟨S64x256, extractStridedSlice S64x256 ![0, 7936] (truncf .bf16 (shapeCast S64x8192 x hc) hd) hs⟩,
          ⟨S64x256, broadcast S64x256 (Scalar.ofBits .bf16 0x0000#16 : Ideal .bf16)⟩] hj
        : FVec Ideal S64x512 .bf16) (ix2 c l)
      = shifted x c (2 * 4096 + l.val) := by
  pointwise
  unfold shifted
  by_cases h : l.val < 256
  · rw [dif_pos h, dif_pos (by omega)]
    exact congrArg (fun q => x (ix3 0 c q)) (Fin.ext (by show 7936 + l.val = 8192 + l.val - 256; omega))
  · rw [dif_neg h, dif_neg (by omega)]

/-- A stretch from inside the input. -/
theorem window_middle {b o : ℕ} (x : FVec Ideal S1x64x8192 .f32) (hc) (hd) (hs) (ho : o + 256 = 2 * b)
    (c : Fin 64) (l : Fin 512) :
    (extractStridedSlice S64x512 ![0, o] (truncf .bf16 (shapeCast S64x8192 x hc) hd) hs : FVec Ideal S64x512 .bf16) (ix2 c l)
      = shifted x c (2 * b + l.val) := by
  have h1 : o + 512 ≤ 8192 := hs.2 1
  pointwise
  unfold shifted
  rw [dif_pos (by omega)]
  exact congrArg (fun q => x (ix3 0 c q)) (Fin.ext (by show o + l.val = 2 * b + l.val - 256; omega))

/-- The output block: every row of the weights against every column of the scratch. -/
def outBuf (x : FVec Ideal S1x64x8192 .f32) (t : FVec Ideal S512x512 .bf16) (w : FVec Ideal S256x256 .bf16)
    (y : S1x256x4224.Idx) : Elt Ideal .f32 :=
  ∑ j : Fin 256, w (ix2 (y 1) j) * tapAt x t j (y 2)

/-- One output store: the weights against 128 columns of the scratch. -/
theorem out_piece {b : ℕ} (x : FVec Ideal S1x64x8192 .f32) (t : FVec Ideal S512x512 .bf16)
    (w : FVec Ideal S256x256 .bf16) (Z : FVec Ideal S256x128 .bf16) (inb₂)
    (hZ : ∀ y, Z y = tapBuf x t ((Rect.unit (s := S256x4224) ![0, b] S256x128.size inb₂).emb y))
    (inb : ∀ i, (![0, 0, b] : Fin 3 → ℕ) i + S1x256x128.size i ≤ S1x256x4224.size i)
    (hcw) (hc) (y : S1x256x128.Idx) :
    shapeCast S1x256x128 (matmul dot_S256x256_S256x128_S256x128_1_0_0_1_n_n none (shapeCast S256x256 w hcw) Z (constant S256x128 .f32 0x00000000#32)) hc y
      = outBuf x t w ((Rect.unit (s := S1x256x4224) ![0, 0, b] S1x256x128.size inb).emb y) := by
  idx_vars y
  pointwise
  have h1 : b + 128 ≤ 4224 := inb 2
  have e1 : ((Rect.unit (s := S1x256x4224) ![0, 0, b] ![1, 256, 128] inb).emb (ix3 y0 y1 y2)) 1 = y1 :=
    Fin.ext (show 0 + 1 * y1.val = y1.val by omega)
  have e2 : ((Rect.unit (s := S1x256x4224) ![0, 0, b] ![1, 256, 128] inb).emb (ix3 y0 y1 y2)) 2 = (⟨b + y2.val, by omega⟩ : Fin 4224) :=
    Fin.ext (show b + 1 * y2.val = b + y2.val by omega)
  unfold outBuf
  refine Finset.sum_congr rfl fun j _ => ?_
  have f0 : ((Rect.unit (s := S256x4224) ![0, b] ![256, 128] inb₂).emb (ix2 j y2)) 0 = j :=
    Fin.ext (show 0 + 1 * j.val = j.val by omega)
  have f1 : ((Rect.unit (s := S256x4224) ![0, b] ![256, 128] inb₂).emb (ix2 j y2)) 1 = (⟨b + y2.val, by omega⟩ : Fin 4224) :=
    Fin.ext (show b + 1 * y2.val = b + y2.val by omega)
  have hz : Z (ix2 j y2) = tapAt x t j ⟨b + y2.val, by omega⟩ := by
    rw [hZ]
    show tapAt x t _ _ = _
    rw [f0, f1]
  rw [e1, e2, hz]

end Cert.KernelIdeal.Taps

end
-- ==== Proof.Pieces.lean ====
/-
  The stores of one grid point, taken together: the scratch's 132 blocks are blocks of one array, so every
  read of the scratch reads that array; the output's 33 blocks are blocks of one array likewise.
-/
module

public import proofs.«01_k».proof.Proof.Taps
public import Idealize.ShloMosaic.Lib.Tactic.RunNames

@[expose] public section

set_option maxRecDepth 16384

noncomputable section

namespace Cert.KernelIdeal.Taps

open Cert.KernelIdeal Cert.KernelIdeal.Gen Idealize.ShloMosaic Idealize.ShloMosaic.TcCoe

section

variable (c : Dev nD) (arg1 : Memref sig .tc .vmem S1x64x8192 .f32) (harg1 : arg1.IsWhole)
  (arg2 : Memref sig .tc .vmem S512x512 .bf16) (harg2 : arg2.IsWhole)
  (x0 : Vec Ideal S1x64x8192 .f32) (x1 : Vec Ideal S512x512 .bf16)

/-- The input as the body loads it. -/
abbrev loaded0 : FVec Ideal S1x64x8192 .f32 :=
  View.readAt (Elt Ideal) arg1.view (Rect.unit ![0, 0, 0] S1x64x8192.size inb_S1x64x8192_S1x64x8192_0_0_0).toLoadRect (harg1.unread x0)

/-- The selection matrix as the body loads it. -/
abbrev loaded1 : FVec Ideal S512x512 .bf16 :=
  View.readAt (Elt Ideal) arg2.view (Rect.unit ![0, 0] S512x512.size inb_S512x512_S512x512_0_0).toLoadRect (harg2.unread x1)

set_option maxHeartbeats 4000000 in
/-- Every scratch store writes a block of `tapBuf`. -/
theorem scratch_pieces :
    View.PiecesOf (tapBuf (loaded0 arg1 harg1 x0) (loaded1 arg2 harg2 x1))
      (kernelRun0_A.sl.HS0_132 (F := Ideal) c arg1 harg1 arg2 harg2 x0 x1) := by
  unfold kernelRun0_A.sl.HS0_132
  iterate 4
    refine ⟨fun y => ?_, ?_⟩
    · dsimp only
      sl_unfold_words
      unfold_payloads
      exact tap_piece _ _ _ (fun c l => by dsimp only; exact window_last _ _ _ _ _ c l) (by decide) (by decide) (by decide) _ _ _ _ _ y
  iterate 124
    refine ⟨fun y => ?_, ?_⟩
    · dsimp only
      sl_unfold_words
      unfold_payloads
      exact tap_piece _ _ _ (fun c l => by dsimp only; exact window_middle _ _ _ _ (by decide) c l) (by decide) (by decide) (by decide) _ _ _ _ _ y
  iterate 4
    refine ⟨fun y => ?_, ?_⟩
    · dsimp only
      sl_unfold_words
      unfold_payloads
      exact tap_piece _ _ _ (fun c l => by dsimp only; exact window_first _ _ _ _ _ c l) (by decide) (by decide) (by decide) _ _ _ _ _ y
  trivial

/-- The scratch stores cover the scratch. -/
theorem scratch_cover (y : S256x4224.Idx) :
    ∃ p ∈ kernelRun0_A.sl.HS0_132 (F := Ideal) c arg1 harg1 arg2 harg2 x0 x1, y ∈ p.1.set :=
  View.cover_of_tiledL (kernelRun0_A.sl.HS0_132 (F := Ideal) c arg1 harg1 arg2 harg2 x0 x1) S64x128.size (by sl_kernel_rfl) y

/-- Every read of the scratch, once it is written, reads `tapBuf`. -/
theorem scratch_read (arg5 : Memref sig .tc .vmem S256x4224 .bf16) (r : Rect S256x4224) (y : r.shape.Idx) :
    arg5.view.readCov (kernelRun0_A.sl.HS0_132 (F := Ideal) c arg1 harg1 arg2 harg2 x0 x1) r.toLoadRect y
      = tapBuf (loaded0 arg1 harg1 x0) (loaded1 arg2 harg2 x1) (r.emb y) := by
  rw [View.readCov_eq_canon']
  exact View.canon_apply_of_pieces _ _ (scratch_pieces c arg1 harg1 arg2 harg2 x0 x1).mem _
    (scratch_cover c arg1 harg1 arg2 harg2 x0 x1 _)

end

section

variable (c : Dev nD) (i : grid0.Coords)
  (arg1 : Memref sig .tc .vmem S1x64x8192 .f32) (harg1 : arg1.IsWhole)
  (arg2 : Memref sig .tc .vmem S512x512 .bf16) (harg2 : arg2.IsWhole)
  (arg3 : Memref sig .tc .vmem S256x256 .bf16) (harg3 : arg3.IsWhole)
  (arg4 : Memref sig .tc .vmem S1x256x4224 .f32) (harg4 : arg4.IsWhole)
  (arg5 : Memref sig .tc .vmem S256x4224 .bf16) (harg5 : arg5.IsWhole)
  (x0 : Vec Ideal S1x64x8192 .f32) (x1 : Vec Ideal S512x512 .bf16) (x2 : Vec Ideal S256x256 .bf16)

/-- The weights as the body loads them. -/
abbrev loaded2 : FVec Ideal S256x256 .bf16 :=
  View.readAt (Elt Ideal) arg3.view (Rect.unit ![0, 0] S256x256.size inb_S256x256_S256x256_0_0).toLoadRect (harg3.unread x2)

set_option maxHeartbeats 4000000 in
/-- Every output store writes a block of `outBuf`. -/
theorem out_pieces :
    View.PiecesOf (outBuf (loaded0 arg1 harg1 x0) (loaded1 arg2 harg2 x1) (loaded2 arg3 harg3 x2))
      (kernelRun0_A (F := Ideal) c i arg1 harg1 arg2 harg2 arg3 harg3 arg4 harg4 arg5 harg5 x0 x1 x2).1 := by
  unfold kernelRun0_A
  dsimp only
  have hr : ∀ (b : ℕ) (inb) (z : S256x128.Idx), arg5.view.readCov (kernelRun0_A.sl.HS0_132 (F := Ideal) c arg1 harg1 arg2 harg2 x0 x1)
        (Rect.unit (s := S256x4224) ![0, b] S256x128.size inb).toLoadRect z
      = tapBuf (loaded0 arg1 harg1 x0) (loaded1 arg2 harg2 x1) ((Rect.unit (s := S256x4224) ![0, b] S256x128.size inb).emb z) :=
    fun b inb => scratch_read c arg1 harg1 arg2 harg2 x0 x1 arg5 (Rect.unit (s := S256x4224) ![0, b] S256x128.size inb)
  iterate 33
    refine ⟨fun y => ?_, ?_⟩
    · dsimp only
      sl_unfold_run_values
      unfold_payloads
      refine out_piece _ _ _ _ ?_ ?_ _ _ _ y
      rotate_left
      · exact hr _ _
  trivial

/-- What one grid point leaves in the output's staging buffer: the weights against the scratch, as arrays
    of the three loaded blocks. -/
theorem out_eq :
    out0_A_3 (F := Ideal) c i arg1 harg1 arg2 harg2 arg3 harg3 arg4 harg4 arg5 harg5 x0 x1 x2 = outBuf x0 x1 x2 := by
  unfold out0_A_3
  rw [View.read_writes_junk_eq_canon]
  funext y
  rw [View.canon_apply_of_pieces _ _ (out_pieces c i arg1 harg1 arg2 harg2 arg3 harg3 arg4 harg4 arg5 harg5 x0 x1 x2).mem y
    (cover0_A_3 c i arg1 harg1 arg2 harg2 arg3 harg3 arg4 harg4 arg5 harg5 x0 x1 x2 y)]
  have e0 : loaded0 arg1 harg1 x0 = x0 := by
    unfold loaded0; rw [View.readAt_eq_ld, Memref.IsWhole.read_unread, View.ld_unit_lit _ _ (by decide)]
  have e1 : loaded1 arg2 harg2 x1 = x1 := by
    unfold loaded1; rw [View.readAt_eq_ld, Memref.IsWhole.read_unread, View.ld_unit_lit _ _ (by decide)]
  have e2 : loaded2 arg3 harg3 x2 = x2 := by
    unfold loaded2; rw [View.readAt_eq_ld, Memref.IsWhole.read_unread, View.ld_unit_lit _ _ (by decide)]
  rw [e0, e1, e2]

end

end Cert.KernelIdeal.Taps

end
-- ==== Proof.HostSide.lean ====
/-
  The two operands that the host prepares for the kernel: the selection matrix and the flattened weights.
-/
module

public import proofs.«01_k».proof.Proof.Gen.KernelIdeal.Frame
public import Idealize.ShloMosaic.PureOps.Ideal
public import Idealize.ShloMosaic.Lib.Pointwise
public import Idealize.ShloMosaic.Lib.StableHlo.ReadAt
public import Idealize.ShloMosaic.Lib.Claim

@[expose] public section

set_option maxRecDepth 16384

noncomputable section

namespace Cert.KernelIdeal.Taps

open Cert.KernelIdeal Cert.KernelIdeal.Gen Idealize.ShloMosaic Idealize.ShloMosaic.TcCoe

variable (m : (ℓ : Loc nD τ sig) → Buf (Elt Ideal) ℓ) (c : Dev nD)

/-- The flattened weights: row `o`, column `64 k + i` is the weight of output channel `o`, input channel `i`, tap `k`. -/
theorem weights_at (o j : Fin 256) :
    (V m c main_v19 : FVec Ideal S256x256 .bf16) (ix2 o j)
      = (m ((c : Thread nD τ).loc main_arg1) : FVec Ideal S256x64x4 .f32) (ix3 o ⟨j.val % 64, by omega⟩ ⟨j.val / 64, by omega⟩) := by
  unfold V V0
  simp only [List.flatten_cons, List.flatten_nil, List.append_nil, List.cons_append, List.nil_append]
  after_reads_at

/-- The divisor of the remainder, as the host guards it against zero. -/
def divisor : BitVec 32 := Scalar.select (IntOp.cmpi CmpIPredicate.eq 128#32 0#32) 1#32 128#32

/-- The row that column `n` of the selection matrix selects, as the host computes it on 32-bit words. -/
def rowWord (n : BitVec 32) : BitVec 32 :=
  IntOp.addi
    (IntOp.addi 250#32
      (IntOp.muli 2#32
        (Scalar.select
          (IntOp.andi
            (IntOp.cmpi CmpIPredicate.ne
              (IntOp.cmpi CmpIPredicate.slt (IntOp.remsi ArithUnit.host n divisor) 0#32)
              (IntOp.cmpi CmpIPredicate.slt divisor 0#32))
            (IntOp.cmpi CmpIPredicate.ne (IntOp.remsi ArithUnit.host n divisor) 0#32))
          (IntOp.addi (IntOp.remsi ArithUnit.host n divisor) divisor)
          (IntOp.remsi ArithUnit.host n divisor))))
    (IntOp.muli 2#32
      (Scalar.select
        (IntOp.andi
          (IntOp.cmpi CmpIPredicate.ne
            (if n = 0 then 0 else if n.msb = true then -1 else 1 : BitVec 32)
            (if 128#32 = 0 then 0 else if BitVec.msb 128#32 = true then -1 else 1 : BitVec 32))
          (IntOp.cmpi CmpIPredicate.ne (IntOp.remsi ArithUnit.host n 128#32) 0#32))
        (IntOp.subi (IntOp.divsi ArithUnit.host n 128#32) 1#32)
        (IntOp.divsi ArithUnit.host n 128#32)))

/-- That row is `250 + 2 (n mod 128) + 2 (n / 128)`. -/
theorem rowWord_eq : ∀ n : Fin 512,
    rowWord (BitVec.ofNat 32 n.val) = BitVec.ofNat 32 (250 + 2 * (n.val % 128) + 2 * (n.val / 128)) := by
  decide +kernel

/-- Comparing two small numbers as words and reading the answer as a float gives one when they are equal, else zero. -/
theorem indicator {a b : ℕ} (ha : a < 512) (hb : b < 512) :
    (FloatOps.uitofp .bf16 (IntOp.cmpi CmpIPredicate.eq (BitVec.ofNat 32 a) (BitVec.ofNat 32 b)) : Ideal .bf16)
      = (if a = b then (1 : EReal) else 0) := by
  rw [WordCmp.cmpi_eq_ofNat (by omega) (by omega)]
  by_cases h : a = b
  · rw [decide_eq_true h, if_pos h]
    show (((1 : ℕ) : ℝ) : EReal) = 1
    simp
  · rw [decide_eq_false h, if_neg h]
    show (((0 : ℕ) : ℝ) : EReal) = 0
    simp

/-- The selection matrix: column `n` selects row `250 + 2 (n mod 128) + 2 (n / 128)`. -/
theorem select_at (l n : Fin 512) :
    (V m c main_v16 : FVec Ideal S512x512 .bf16) (ix2 l n)
      = (if l.val = 250 + 2 * (n.val % 128) + 2 * (n.val / 128) then (1 : EReal) else 0) := by
  unfold V V0
  simp only [List.flatten_cons, List.flatten_nil, List.append_nil, List.cons_append, List.nil_append]
  after_reads_at
  show FloatOps.uitofp .bf16 (IntOp.cmpi CmpIPredicate.eq (BitVec.ofNat 32 l.val) (rowWord (BitVec.ofNat 32 n.val))) = _
  rw [rowWord_eq]
  exact indicator l.isLt (by omega)

end Cert.KernelIdeal.Taps

end
-- ==== Proof.Convolve.lean ====
/-
  The convolution as one sum over taps and input channels, and the kernel's array as that sum.

  A product with the selection matrix picks one column of the shifted input, so a row of the scratch holds the
  input at a tap; the weights against the scratch's 256 rows are then a sum over 4 taps and 64 channels.
-/
module

public import proofs.«01_k».proof.Proof.Pieces
public import proofs.«01_k».proof.Proof.HostSide

@[expose] public section

set_option maxRecDepth 16384

noncomputable section

namespace Cert.KernelIdeal.Taps

open Cert.KernelIdeal Cert.KernelIdeal.Gen Idealize.ShloMosaic Idealize.ShloMosaic.TcCoe

/-- Column `q - 6` of channel `i` of batch entry `b`, and zero outside its 8192 columns: the zero-padded input. -/
def paddedAt (A : FVec Ideal S32x64x8192 .f32) (b : Fin 32) (i : Fin 64) (q : ℕ) : EReal :=
  if h : 6 ≤ q ∧ q < 8198 then A (ix3 b i ⟨q - 6, by omega⟩) else 0

/-- The convolution at batch entry `b`, output channel `o` and column `p`: the sum over the taps `k` and the input
    channels `i` of the weight times the padded input at column `2 p + 2 k`. -/
def convAt (A : FVec Ideal S32x64x8192 .f32) (W : FVec Ideal S256x64x4 .f32) (b : Fin 32) (o : Fin 256) (p : ℕ) : EReal :=
  ∑ k : Fin 4, ∑ i : Fin 64, W (ix3 o i k) * paddedAt A b i (2 * p + 2 * k.val)

/-- The kernel's whole output array, its last 125 columns included. -/
def laidOut (A : FVec Ideal S32x64x8192 .f32) (W : FVec Ideal S256x64x4 .f32) (y : S32x256x4224.Idx) : Elt Ideal .f32 :=
  convAt A W (y 0) (y 1) (y 2).val

/-- One batch entry's shifted input is the padded input, 250 columns on. -/
theorem shifted_eq (A : FVec Ideal S32x64x8192 .f32) (x : FVec Ideal S1x64x8192 .f32) (b : Fin 32)
    (hx : ∀ (i : Fin 64) (q : Fin 8192), x (ix3 0 i q) = A (ix3 b i q)) (i : Fin 64) (q : ℕ) :
    shifted x i (250 + q) = paddedAt A b i q := by
  unfold shifted paddedAt
  by_cases h : 6 ≤ q ∧ q < 8198
  · rw [dif_pos h, dif_pos (by omega), hx]
    exact congrArg (fun q => A (ix3 b i q)) (Fin.ext (by show 250 + q - 256 = q - 6; omega))
  · rw [dif_neg h, dif_neg (by omega)]

/-- A row of the scratch, when the second operand is the selection matrix: one column of the shifted input. -/
theorem tapAt_select (x : FVec Ideal S1x64x8192 .f32) (t : FVec Ideal S512x512 .bf16)
    (ht : ∀ l n : Fin 512, t (ix2 l n) = (if l.val = 250 + 2 * (n.val % 128) + 2 * (n.val / 128) then (1 : EReal) else 0))
    (j : Fin 256) (p : Fin 4224) :
    tapAt x t j p = shifted x ⟨j.val % 64, by omega⟩ (250 + (2 * p.val + 2 * (j.val / 64))) := by
  unfold tapAt
  rw [Finset.sum_eq_single (⟨250 + 2 * (p.val % 128) + 2 * (j.val / 64), by omega⟩ : Fin 512)]
  · rw [ht, if_pos (by
      show 250 + 2 * (p.val % 128) + 2 * (j.val / 64)
        = 250 + 2 * ((128 * (j.val / 64) + p.val % 128) % 128) + 2 * ((128 * (j.val / 64) + p.val % 128) / 128)
      omega), mul_one]
    exact congrArg (shifted x _) (by show 256 * (p.val / 128) + (250 + 2 * (p.val % 128) + 2 * (j.val / 64)) = _; omega)
  · intro l _ hl
    rw [ht, if_neg, mul_zero]
    intro h
    exact hl (Fin.ext (by show l.val = 250 + 2 * (p.val % 128) + 2 * (j.val / 64); simp only at h; omega))
  · intro h
    exact absurd (Finset.mem_univ _) h

/-- A sum over 256 rows is a sum over 4 groups of 64. -/
theorem sum_groups (f : Fin 4 → Fin 64 → EReal) :
    ∑ j : Fin 256, f ⟨j.val / 64, by omega⟩ ⟨j.val % 64, by omega⟩ = ∑ k : Fin 4, ∑ i : Fin 64, f k i := by
  rw [← Fintype.sum_prod_type']
  refine (Fintype.sum_equiv (finProdFinEquiv (m := 4) (n := 64)) _ _ fun q => ?_).symm
  obtain ⟨k, i⟩ := q
  have hk : (⟨(finProdFinEquiv (m := 4) (n := 64) (k, i)).val / 64, by omega⟩ : Fin 4) = k :=
    Fin.ext (by show (i.val + 64 * k.val) / 64 = k.val; omega)
  have hi : (⟨(finProdFinEquiv (m := 4) (n := 64) (k, i)).val % 64, by omega⟩ : Fin 64) = i :=
    Fin.ext (by show (i.val + 64 * k.val) % 64 = i.val; omega)
  exact (congrArg₂ f hk hi).symm

/-- One block of the output is the convolution of its batch entry. -/
theorem outBuf_eq (A : FVec Ideal S32x64x8192 .f32) (W : FVec Ideal S256x64x4 .f32) (x : FVec Ideal S1x64x8192 .f32)
    (t : FVec Ideal S512x512 .bf16) (w : FVec Ideal S256x256 .bf16) (b : Fin 32)
    (hx : ∀ (i : Fin 64) (q : Fin 8192), x (ix3 0 i q) = A (ix3 b i q))
    (ht : ∀ l n : Fin 512, t (ix2 l n) = (if l.val = 250 + 2 * (n.val % 128) + 2 * (n.val / 128) then (1 : EReal) else 0))
    (hw : ∀ o j : Fin 256, w (ix2 o j) = W (ix3 o ⟨j.val % 64, by omega⟩ ⟨j.val / 64, by omega⟩))
    (z : Fin 1) (o : Fin 256) (p : Fin 4224) :
    outBuf x t w (ix3 z o p) = convAt A W b o p.val := by
  show ∑ j : Fin 256, w (ix2 o j) * tapAt x t j p = _
  unfold convAt
  rw [← sum_groups fun k i => W (ix3 o i k) * paddedAt A b i (2 * p.val + 2 * k.val)]
  refine Finset.sum_congr rfl fun j _ => ?_
  rw [hw, tapAt_select x t ht, shifted_eq A x b hx]

section

variable (m : (ℓ : Loc nD τ sig) → Buf (Elt Ideal) ℓ) (c : Dev nD)

/-- The input's block at point `t` is batch entry `t`. -/
theorem block_input (t : Fin cfg0.N) (i : Fin 64) (q : Fin 8192) :
    (iblk m c 0 t : FVec Ideal S1x64x8192 .f32) (ix3 0 i q)
      = (m ((c : Thread nD τ).loc main_arg0) : FVec Ideal S32x64x8192 .f32) (ix3 ⟨t.val, t.isLt⟩ i q) := by
  have hi : ∀ t : Fin cfg0.N, win0_0.index t = ![t.val, 0, 0] := by decide +kernel
  rw [← V_main_arg0 m c]
  blk_ext [iblk, hi t]

/-- The selection matrix's block is the whole matrix, at every point. -/
theorem block_select (t : Fin cfg0.N) : (iblk m c 1 t : FVec Ideal S512x512 .bf16) = V m c main_v16 := by
  have hi : ∀ t : Fin cfg0.N, win0_1.index t = ![0, 0] := by decide +kernel
  funext y
  blk_ext [iblk, hi t]

/-- The weights' block is all the weights, at every point. -/
theorem block_weights (t : Fin cfg0.N) : (iblk m c 2 t : FVec Ideal S256x256 .bf16) = V m c main_v19 := by
  have hi : ∀ t : Fin cfg0.N, win0_2.index t = ![0, 0] := by decide +kernel
  funext y
  blk_ext [iblk, hi t]

/-- Where the output's block at point `t` lies: batch entry `t`, every channel and column. -/
theorem block_place (t : Fin cfg0.N) (y : S1x256x4224.Idx) :
    ((win0_3.blk t).view.emb y : S32x256x4224.Idx) = ix3 (⟨t.val, t.isLt⟩ : Fin 32) (y 1) (y 2) := by
  have hi : ∀ t : Fin cfg0.N, win0_3.index t = ![t.val, 0, 0] := by decide +kernel
  idx_vars y
  blk_ext [hi t]

/-- The output array after the last grid point is the convolution, columns 4099 and beyond included. -/
theorem array_eq :
    (dats m 0 c).arrAt 3 cfg0.N
      = laidOut (m ((c : Thread nD τ).loc main_arg0)) (m ((c : Thread nD τ).loc main_arg1)) := by
  refine (dats m 0 c).arrAt_eq_of_covers 3 _ (by decide +kernel) fun t hf y => ?_
  blk_simp
  rw [after0_3]
  unfold outsAt0
  rw [out_eq]
  have hy : ((win0_3.blk t).view.emb y : S32x256x4224.Idx) = _ := block_place t y
  refine Eq.trans ?_ (congrArg (laidOut _ _) hy).symm
  have hs := select_at m c
  have hw := weights_at m c
  rw [← block_select m c t] at hs
  rw [← block_weights m c t] at hw
  exact (congrArg (outBuf _ _ _) (eq_ix3 (y : S1x256x4224.Idx))).trans
    (outBuf_eq _ _ _ _ _ _ (block_input m c t) hs hw _ _ _)

/-- The convolution as the result array: its first 4099 columns. -/
def result (A : FVec Ideal S32x64x8192 .f32) (W : FVec Ideal S256x64x4 .f32) (y : S32x256x4099.Idx) : Elt Ideal .f32 :=
  convAt A W (y 0) (y 1) (y 2).val

/-- The kernel program's result, cut from its array after the launch, is the convolution. -/
theorem result_eq :
    (Pipeline.afterTail₀ cfgs (dats m) 0 (V0 m) [hostOps1] c main_v21 : FVec Ideal S32x256x4099 .f32)
      = result (m ((c : Thread nD τ).loc main_arg0)) (m ((c : Thread nD τ).loc main_arg1)) := by
  have ha : Pipeline.withArrays (cfgs 0).spec c (V0 m c) (fun w => (dats m 0 c).arrAt w (cfgs 0).N)
      (Proc.devRef .tc main_v20) = (dats m 0 c).arrAt 3 cfg0.N :=
    Pipeline.withArrays_arr spec0 (by decide) c _ _ 3
  unfold Pipeline.afterTail₀
  simp only [hostOps1, List.flatten_cons, List.flatten_nil, List.append_nil]
  after_results
  rw [ha, array_eq]
  funext y
  idx_vars y
  pointwise
  rfl

end

end Cert.KernelIdeal.Taps

end
-- ==== Proof.Reference.lean ====
/-
  The reference read at an index: each tap's product is a sum over the input channels, and the four of them
  added to zero are the convolution.
-/
module

public import proofs.«01_k».proof.Proof.Convolve
public import proofs.«01_k».proof.Proof.Gen.ReferenceIdeal.Run

@[expose] public section

set_option maxRecDepth 16384

noncomputable section

namespace Cert.ReferenceIdeal.Taps

open Cert.ReferenceIdeal Cert.ReferenceIdeal.Gen Idealize.ShloMosaic Idealize.ShloMosaic.TcCoe
open Cert.KernelIdeal.Taps (paddedAt convAt result)

/-- One tap's term of the reference: the padded input's every other column from `2 k` on, against the weights
    of tap `k`. -/
theorem tap_term {k e : ℕ} (hk : k < 4) (he : e = 2 * k) (A : FVec Ideal S32x64x8192 .f32) (W : FVec Ideal S256x64x4 .f32)
    (hp) (h0) (hs) (ht) (hr) (hc) (b : Fin 32) (o : Fin 256) (p : Fin 4099) :
    (transpose S32x256x4099 [0, 2, 1]
        (Host.dotGeneral dot_S32x64x4099_S256x64_S32x4099x256_1_1_02_0_n_n none
          (Host.slice S32x64x4099 ![0, 0, e] ![1, 1, 2]
            (pad S32x64x8204 ![0, 0, 6] ![0, 0, 6] ![0, 0, 0] A
              (sitofp .f32 (constantI S_ 32 0#32) : FVec Ideal S_ .f32) hp h0) hs)
          (shapeCast S256x64 (extractStridedSlice S256x64x1 ![0, 0, k] W ht) hr)) hc
        : FVec Ideal S32x256x4099 .f32) (ix3 b o p)
      = ∑ i : Fin 64, W (ix3 o i ⟨k, hk⟩) * paddedAt A b i (2 * p.val + 2 * k) := by
  subst he
  pointwise
  refine Finset.sum_congr rfl fun i _ => ?_
  rw [mul_comm]
  refine congrArg (W (ix3 o i ⟨k, hk⟩) * ·) ?_
  unfold paddedAt
  by_cases h : 6 ≤ 2 * p.val + 2 * k ∧ 2 * p.val + 2 * k < 8198
  · rw [dif_pos h, dif_pos (by omega)]
    exact congrArg (fun q => A (ix3 b i q)) (Fin.ext (by show 2 * k + 2 * p.val - 6 = 2 * p.val + 2 * k - 6; omega))
  · rw [dif_neg h, dif_neg (by omega)]
    show (((0#32 : BitVec 32).toInt : ℝ) : EReal) = 0
    simp

/-- An array holds, everywhere, the term of the convolution that belongs to tap `k`. -/
def IsTap (A : FVec Ideal S32x64x8192 .f32) (W : FVec Ideal S256x64x4 .f32) (k : Fin 4)
    (T : FVec Ideal S32x256x4099 .f32) : Prop :=
  ∀ (b : Fin 32) (o : Fin 256) (p : Fin 4099),
    T (ix3 b o p) = ∑ i : Fin 64, W (ix3 o i k) * paddedAt A b i (2 * p.val + 2 * k.val)

/-- The four taps' terms added one after another to the zero array: the convolution. -/
theorem sum_taps (A : FVec Ideal S32x64x8192 .f32) (W : FVec Ideal S256x64x4 .f32)
    (T0 T1 T2 T3 : FVec Ideal S32x256x4099 .f32) (hb)
    (h0 : IsTap A W 0 T0) (h1 : IsTap A W 1 T1) (h2 : IsTap A W 2 T2) (h3 : IsTap A W 3 T3) :
    addf (addf (addf (addf (broadcastInDim S32x256x4099 ![] hb (constant S_ .f32 0#32 : FVec Ideal S_ .f32)) T0) T1)
      T2) T3 = result A W := by
  funext y
  idx_vars y
  pointwise
  simp only [h0 _ _ _, h1 _ _ _, h2 _ _ _, h3 _ _ _, zero_add]
  exact (Fin.sum_univ_four fun k : Fin 4 => ∑ i : Fin 64, W (ix3 y1 i k) * paddedAt A y0 i (2 * y2.val + 2 * k.val)).symm

end Cert.ReferenceIdeal.Taps

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Reference
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel program runs to its end, leaves both arguments as they were and every counter at zero. -/
theorem frame_kernel : Cert.quiescent_Kernel := fun m ρ _ => Cert.Kernel.Gen.frame m ρ

/-- The same of the kernel's idealized program. -/
theorem frame_ideal : Cert.quiescent_KernelIdeal := fun m ρ _ => Cert.KernelIdeal.Gen.frame m ρ

/-- The same of the reference. -/
theorem frame_reference : Cert.quiescent_ReferenceIdeal := by
  intro m ρ _
  exact θ_run_mono (Cert.ReferenceIdeal.Value.run m ρ) fun r h => ⟨fun c => (h c).2, sem_eq_zero_of_no_sems rfl r.2⟩

/-- From equal arguments the reference and the idealized kernel end with equal results: both hold the convolution. -/
theorem algebraic : Cert.algebraic_KernelIdeal_ReferenceIdeal := by
  pair_intro
  · run_from Cert.KernelIdeal.Gen.run_main m g
    all_goals exact Cert.KernelIdeal.Gen.W_main_arg1 m _ c
  · run_from Cert.ReferenceIdeal.Value.run m' g'
    refine Eq.trans ?_ (Cert.KernelIdeal.Taps.result_eq m c).symm
    exact Cert.ReferenceIdeal.Taps.sum_taps _ _ _ _ _ _ _
      (fun b o p => Cert.ReferenceIdeal.Taps.tap_term (k := 0) (by decide) rfl _ _ _ _ _ _ _ _ b o p)
      (fun b o p => Cert.ReferenceIdeal.Taps.tap_term (k := 1) (by decide) rfl _ _ _ _ _ _ _ _ b o p)
      (fun b o p => Cert.ReferenceIdeal.Taps.tap_term (k := 2) (by decide) rfl _ _ _ _ _ _ _ _ b o p)
      (fun b o p => Cert.ReferenceIdeal.Taps.tap_term (k := 3) (by decide) rfl _ _ _ _ _ _ _ _ b o p)

/-- The whole claim. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
